-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_user_in_order [hPre_every_user_in_order : Cert.Pre_every_user_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_every_user_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_user_in_order [hPre_every_user_in_order : Cert.Pre_every_user_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_user_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_every_user_in_order [hKernelIdeal : Cert.KernelIdeal.Facts] [hPre_every_user_in_order : Cert.Pre_every_user_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_user_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_every_user_in_order [hReferenceIdeal : Cert.ReferenceIdeal.Facts] [hPre_every_user_in_order : Cert.Pre_every_user_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_user_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_every_user_in_order [hKernelIdeal : Cert.KernelIdeal.Facts] [hReferenceIdeal : Cert.ReferenceIdeal.Facts] [hPre_every_user_in_order : Cert.Pre_every_user_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_user_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_every_user_in_order : Cert.Pre_every_user_in_order.Facts),
    quiescent_Kernel (hKernel := hKernel)
    ∧ quiescent_KernelIdeal (hKernelIdeal := hKernelIdeal)
    ∧ quiescent_KernelIdeal_pre_every_user_in_order (hKernelIdeal := hKernelIdeal) (hPre_every_user_in_order := hPre_every_user_in_order)
    ∧ quiescent_ReferenceIdeal (hReferenceIdeal := hReferenceIdeal)
    ∧ quiescent_ReferenceIdeal_pre_every_user_in_order (hReferenceIdeal := hReferenceIdeal) (hPre_every_user_in_order := hPre_every_user_in_order)
    ∧ preserves_Kernel_KernelIdeal
    ∧ algebraic_KernelIdeal_ReferenceIdeal_pre_every_user_in_order (hKernelIdeal := hKernelIdeal) (hReferenceIdeal := hReferenceIdeal) (hPre_every_user_in_order := hPre_every_user_in_order)
-- ==== Pre_every_user_in_order.lean ====
abbrev S4096 : Shape := ⟨1, ![4096]⟩
abbrev S256 : Shape := ⟨1, ![256]⟩
abbrev S4096x4096 : Shape := ⟨2, ![4096, 4096]⟩
abbrev S4096x256 : Shape := ⟨2, ![4096, 256]⟩
abbrev S_ : Shape := ⟨0, ![]⟩

class Facts : Prop where
  reducesTo_S4096_S_d0 : S4096.ReducesTo [0] S_
  h_S_ : 0 < S_.numel

variable [Facts]

def fn {F : FTy → Type} [FloatOps F] (main_arg0 : IVec S4096 32) (main_arg1 : IVec S256 32) (main_arg2 : FVec F S4096x4096 .f32) (main_arg3 : FVec F S4096x256 .f32) : IVec S_ 1 :=
  let main_v0 : IVec S4096 32 := iotaInDim S4096 32 0
  let main_v1 : IVec S4096 1 := cmpi .eq main_arg0 main_v0
  let main_c : IVec S_ 1 := constantI S_ 1 1#1
  let main_v2 : IVec S_ 1 := (fun x v => Host.reduce IntOp.andi x v reducesTo_S4096_S_d0 h_S_) main_v1 main_c
  main_v2
-- ==== Kernel.lean ====
abbrev S4096 : Shape := ⟨1, ![4096]⟩
abbrev S256 : Shape := ⟨1, ![256]⟩
abbrev S4096x4096 : Shape := ⟨2, ![4096, 4096]⟩
abbrev S4096x256 : Shape := ⟨2, ![4096, 256]⟩
abbrev S4x512x4096 : Shape := ⟨3, ![4, 512, 4096]⟩
abbrev S2x512x256 : Shape := ⟨3, ![2, 512, 256]⟩
abbrev S4 : Shape := ⟨1, ![4]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S512x256 : Shape := ⟨2, ![512, 256]⟩
abbrev S1x512x256 : Shape := ⟨3, ![1, 512, 256]⟩

abbrev nBuf : Space → Nat
  | .hbm => 5
  | .vmem => 3
  | .smem => 0
  | _ => 0

abbrev bufTy : (tb : Table) → Fin (tcTables nBuf tb) → BufTy
  | .hbm, ⟨0, _⟩ => ⟨S4096, .i32⟩
  | .hbm, ⟨1, _⟩ => ⟨S256, .i32⟩
  | .hbm, ⟨2, _⟩ => ⟨S4096x4096, .f32⟩
  | .hbm, ⟨3, _⟩ => ⟨S4096x256, .f32⟩
  | .hbm, ⟨4, _⟩ => ⟨S4096x256, .f32⟩
  | .local _ .vmem, ⟨0, _⟩ => ⟨S4096x256, .f32⟩
  | .local _ .vmem, ⟨1, _⟩ => ⟨S4x512x4096, .f32⟩
  | .local _ .vmem, ⟨2, _⟩ => ⟨S2x512x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096 : Shape := ⟨1, ![4096]⟩
abbrev S256 : Shape := ⟨1, ![256]⟩
abbrev S4096x4096 : Shape := ⟨2, ![4096, 4096]⟩
abbrev S4096x256 : Shape := ⟨2, ![4096, 256]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096, .i32⟩
  | .hbm, ⟨1, _⟩ => ⟨S256, .i32⟩
  | .hbm, ⟨2, _⟩ => ⟨S4096x4096, .f32⟩
  | .hbm, ⟨3, _⟩ => ⟨S4096x256, .f32⟩
  | .hbm, ⟨4, _⟩ => ⟨S_, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x256, .f32⟩
  | .hbm, ⟨27, _⟩ => ⟨S4096x256, .i1⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x256, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v1 : Ref sig .tc := ⟨.hbm, 30, rfl⟩
abbrev main_v2 : Ref sig .tc := ⟨.hbm, 31, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.ValueIdxCore
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (Pipeline.UD sig nD τ) ℕ

/-- The feedback matrix, whole. -/
abbrev aM : Memref sig .tc .hbm S4096x4096 .f32 := Memref.whole main_arg2
/-- The result, whole. -/
abbrev oM : Memref sig .tc .hbm S4096x256 .f32 := Memref.whole main_v0
/-- The ring of four input buffers, whole. -/
abbrev ringM : Memref sig .tc .vmem S4x512x4096 .f32 := Memref.whole cc0_scratch0
/-- The two output buffers, whole. -/
abbrev outM : Memref sig .tc .vmem S2x512x256 .f32 := Memref.whole cc0_scratch1
/-- The contents of the buffer a reference lies in. -/
abbrev BufOf (c : Dev nD) {sp : Space} {S : Shape} {e : EltTy} (M : Memref sig .tc sp S e) : Type := Buf (Elt F) (M.view.loc (c : Thread nD τ))
/-- Full ownership of the whole buffer a reference lies in. -/
abbrev pt (c : Dev nD) {sp : Space} {S : Shape} {e : EltTy} (M : Memref sig .tc sp S e) (f : BufOf (F := F) c M) : sProp 𝕄 :=
  M.view.loc (c : Thread nD τ) ↦{fullShare} f

/-- Buffer `i` of the input ring, as the block of 512 rows a transfer fills. -/
abbrev slotM (i : ℕ) (h : ∀ a, (![i, 0, 0] : Fin 3 → ℕ) a + S1x512x4096.size a ≤ S4x512x4096.size a) : Memref sig .tc .vmem S512x4096 .f32 :=
  (ringM.slice (Rect.unit (s := S4x512x4096) ![i, 0, 0] S1x512x4096.size h) (fun _ => rfl)).squeeze S512x4096 squeezes_S1x512x4096_S512x4096
/-- The 512 rows of the result that start at row `i`. -/
abbrev blkM (i : ℕ) (h : ∀ a, (![i, 0] : Fin 2 → ℕ) a + S512x256.size a ≤ S4096x256.size a) : Memref sig .tc .hbm S512x256 .f32 :=
  oM.slice (Rect.unit (s := S4096x256) ![i, 0] S512x256.size h) (fun _ => rfl)
/-- Full ownership of the cells of one reference only. -/
abbrev own (c : Dev nD) {sp : Space} {S : Shape} {e : EltTy} (M : Memref sig .tc sp S e) (f : BufOf (F := F) c M) : sProp 𝕄 :=
  M.view.loc (c : Thread nD τ) ↦[M.view.set]{fullShare} f

/-- Two indices of a matrix are equal when their two coordinates are. -/
theorem idx_ext2 {n0 n1 : ℕ} {i j : (⟨2, ![n0, n1]⟩ : Shape).Idx} (h0 : (i 0 : ℕ) = (j 0 : ℕ)) (h1 : (i 1 : ℕ) = (j 1 : ℕ)) : i = j := by
  funext a
  match a with
  | ⟨0, _⟩ => exact Fin.ext h0
  | ⟨1, _⟩ => exact Fin.ext h1

/-- The cells of a ring buffer are a box of the ring. -/
theorem slot_set (i : ℕ) (h : ∀ a, (![i, 0, 0] : Fin 3 → ℕ) a + S1x512x4096.size a ≤ S4x512x4096.size a) :
    (slotM i h).view.set = (Rect.unit (s := S4x512x4096) ![i, 0, 0] S1x512x4096.size h).set :=
  (View.set_reshape _ _).trans (View.set_slice_whole _ _)

/-- A load of one ring buffer touches only its own cells. -/
theorem slot_sub (i : ℕ) (h : ∀ a, (![i, 0, 0] : Fin 3 → ℕ) a + S1x512x4096.size a ≤ S4x512x4096.size a) :
    (ringM.access (Rect.unit (s := S4x512x4096) ![i, 0, 0] S1x512x4096.size h)).set ⊆ (slotM i h).view.set :=
  (View.set_reshape _ _).symm.subset

/-- The cells of a block of the result are a box of the result. -/
theorem blk_set (i : ℕ) (h : ∀ a, (![i, 0] : Fin 2 → ℕ) a + S512x256.size a ≤ S4096x256.size a) :
    (blkM i h).view.set = (Rect.unit (s := S4096x256) ![i, 0] S512x256.size h).set :=
  View.set_slice_whole _ _

/-- Each of the four buffers lies inside the ring. -/
theorem slot_inb (b : Fin 4) : ∀ a, (![(b : ℕ), 0, 0] : Fin 3 → ℕ) a + S1x512x4096.size a ≤ S4x512x4096.size a := by
  revert b; decide
/-- Each of the eight blocks lies inside the result. -/
theorem blk_inb (b : Fin 8) : ∀ a, (![512 * (b : ℕ), 0] : Fin 2 → ℕ) a + S512x256.size a ≤ S4096x256.size a := by
  revert b; decide
/-- Each of the eight row blocks lies inside the feedback. -/
theorem rows_inb (b : Fin 8) : ∀ a, (![512 * (b : ℕ), 0] : Fin 2 → ℕ) a + S512x4096.size a ≤ S4096x4096.size a := by
  revert b; decide

/-- The cells of ring buffer `b`. -/
abbrev slotSet (b : Fin 4) : Finset S4x512x4096.Idx := (slotM b (slot_inb b)).view.set
/-- The cells of block `b` of the result. -/
abbrev blkSet (b : Fin 8) : Finset S4096x256.Idx := (blkM (512 * (b : ℕ)) (blk_inb b)).view.set

/-- A cell of the ring is in the buffer its first coordinate names. -/
theorem mem_slotSet (b : Fin 4) (i : S4x512x4096.Idx) : i ∈ slotSet b ↔ (i 0 : ℕ) = b := by
  rw [slotSet, slot_set, Rect.mem_set_unit]
  constructor
  · intro h; have := h 0; simp at this; omega
  · intro h a
    have := (i a).isLt
    fin_cases a <;> simp at this ⊢ <;> omega

/-- A cell of the result is in the block its row names. -/
theorem mem_blkSet (b : Fin 8) (i : S4096x256.Idx) : i ∈ blkSet b ↔ (i 0 : ℕ) / 512 = b := by
  rw [blkSet, blk_set, Rect.mem_set_unit]
  constructor
  · intro h; have := h 0; simp at this; omega
  · intro h a
    have := (i a).isLt
    fin_cases a <;> simp at this ⊢ <;> omega

/-- Two buffers of the ring share no cell. -/
theorem slotSet_disjoint (b b' : Fin 4) (h : b ≠ b') : Disjoint (slotSet b) (slotSet b') := by
  rw [Finset.disjoint_left]; intro i hi hi'; rw [mem_slotSet] at hi hi'; exact h (Fin.ext (hi.symm.trans hi'))
/-- Two blocks of the result share no cell. -/
theorem blkSet_disjoint (b b' : Fin 8) (h : b ≠ b') : Disjoint (blkSet b) (blkSet b') := by
  rw [Finset.disjoint_left]; intro i hi hi'; rw [mem_blkSet] at hi hi'; exact h (Fin.ext (hi.symm.trans hi'))
/-- The four buffers make up the ring. -/
theorem slotSet_cover : Finset.univ.biUnion slotSet = Finset.univ := by
  ext i; simp only [Finset.mem_biUnion, Finset.mem_univ, true_and, iff_true]
  exact ⟨⟨i 0, (i 0).isLt⟩, (mem_slotSet _ _).mpr rfl⟩
/-- The eight blocks make up the result. -/
theorem blkSet_cover : Finset.univ.biUnion blkSet = Finset.univ := by
  ext i; simp only [Finset.mem_biUnion, Finset.mem_univ, true_and, iff_true]
  have : (i 0 : ℕ) < 4096 := (i 0).isLt
  exact ⟨⟨(i 0 : ℕ) / 512, by omega⟩, (mem_blkSet _ _).mpr rfl⟩

/-- The ring buffer held whole is its four slots held. -/
theorem ring_slots (c : Dev nD) (f : BufOf (F := F) c ringM) :
    (pt c ringM f : sProp 𝕄) = iprop(own c (slotM 0 inb_S4x512x4096_S1x512x4096_0_0_0) f ∗ own c (slotM 1 inb_S4x512x4096_S1x512x4096_1_0_0) f
      ∗ own c (slotM 2 inb_S4x512x4096_S1x512x4096_2_0_0) f ∗ own c (slotM 3 inb_S4x512x4096_S1x512x4096_3_0_0) f) := by
  refine (Ring.pointsTo_blocks (ℓ := ringM.view.loc (c : Thread nD τ)) (q := fullShare) slotSet slotSet_disjoint slotSet_cover f).trans ?_
  rw [bigSep_univ_eq_bigSepL [(0 : Fin 4), 1, 2, 3] (by decide) (by decide)]; rfl

/-- The four slots, each at contents of its own, are the ring buffer held whole at some contents. -/
theorem slots_ring (c : Dev nD) (f₀ : BufOf (F := F) c ringM) :
    iprop((∃ f, own c (slotM 0 inb_S4x512x4096_S1x512x4096_0_0_0) f) ∗ (∃ f, own c (slotM 1 inb_S4x512x4096_S1x512x4096_1_0_0) f)
      ∗ (∃ f, own c (slotM 2 inb_S4x512x4096_S1x512x4096_2_0_0) f) ∗ (∃ f, own c (slotM 3 inb_S4x512x4096_S1x512x4096_3_0_0) f))
      ⊢ (iprop(∃ g, pt c ringM g) : sProp 𝕄) := by
  refine BIBase.Entails.trans ?_ (Ring.pointsTo_blocks_join_exists (ℓ := ringM.view.loc (c : Thread nD τ)) (q := fullShare) slotSet slotSet_disjoint slotSet_cover f₀)
  rw [bigSep_univ_eq_bigSepL [(0 : Fin 4), 1, 2, 3] (by decide) (by decide)]; exact .rfl

/-- The result array held whole is its eight row blocks held. -/
theorem out_blocks (c : Dev nD) (f : BufOf (F := F) c oM) :
    (pt c oM f : sProp 𝕄) = iprop(own c (blkM 0 inb_S4096x256_S512x256_0_0) f ∗ own c (blkM 512 inb_S4096x256_S512x256_512_0) f
      ∗ own c (blkM 1024 inb_S4096x256_S512x256_1024_0) f ∗ own c (blkM 1536 inb_S4096x256_S512x256_1536_0) f
      ∗ own c (blkM 2048 inb_S4096x256_S512x256_2048_0) f ∗ own c (blkM 2560 inb_S4096x256_S512x256_2560_0) f
      ∗ own c (blkM 3072 inb_S4096x256_S512x256_3072_0) f ∗ own c (blkM 3584 inb_S4096x256_S512x256_3584_0) f) := by
  refine (Ring.pointsTo_blocks (ℓ := oM.view.loc (c : Thread nD τ)) (q := fullShare) blkSet blkSet_disjoint blkSet_cover f).trans ?_
  rw [bigSep_univ_eq_bigSepL [(0 : Fin 8), 1, 2, 3, 4, 5, 6, 7] (by decide) (by decide)]; rfl

/-! ## What one block holds -/

/-- One row block of the result: 512 rows of the feedback times the clipped weights. -/
def blockOf (w : Vec F S4096x256 .f32) (a : Vec F S512x4096 .f32) : FVec F S512x256 .f32 :=
  matmul dot_S512x4096_S4096x256_S512x256_1_0_0_1_n_n none (truncf .bf16 a bitsLt_bf16_f32) (k0_pay1 w) (constant S512x256 .f32 0x00000000#32)

/-- The 512 rows of the feedback that row block `b` is computed from. -/
def rowsOf (a : Vec F S4096x4096 .f32) (b : ℕ) (hb : b < 8) : Vec F S512x4096 .f32 :=
  fun x => a (ix2 ⟨512 * b + (x 0 : ℕ), by have : (x 0 : ℕ) < 512 := (x 0).isLt; omega⟩ ⟨(x 1 : ℕ), (x 1).isLt⟩)

/-- The whole result: row `i` is row `i % 512` of block `i / 512`. -/
def result (w : Vec F S4096x256 .f32) (a : Vec F S4096x4096 .f32) : Vec F S4096x256 .f32 :=
  fun i => blockOf w (rowsOf a ((i 0 : ℕ) / 512) (by have : (i 0 : ℕ) < 4096 := (i 0).isLt; omega))
    (ix2 ⟨(i 0 : ℕ) % 512, Nat.mod_lt _ (by decide)⟩ ⟨(i 1 : ℕ), (i 1).isLt⟩)

/-- Reading a row block of the feedback gives its rows. -/
theorem read_rows (b : Fin 8) (a : Vec F S4096x4096 .f32) :
    (aM.slice (Rect.unit (s := S4096x4096) ![512 * (b : ℕ), 0] S512x4096.size (rows_inb b)) (fun _ => rfl)).view.read (Elt F) a
      = rowsOf a b b.isLt := by
  funext x
  refine congrArg a (idx_ext2 ?_ ?_)
  · show 512 * (b : ℕ) + 1 * (x 0 : ℕ) = _; simp [ix2]
  · show 0 + 1 * (x 1 : ℕ) = _; simp [ix2]

/-- An entry of the product of a row block is the entry of the whole result at that row. -/
theorem block_entry (b : Fin 8) (w : Vec F S4096x256 .f32) (a : Vec F S4096x4096 .f32) (x : S512x256.Idx) :
    blockOf w (rowsOf a b b.isLt) x = result w a ((blkM (512 * (b : ℕ)) (blk_inb b)).view.emb x) := by
  have hx : (x 0 : ℕ) < 512 := (x 0).isLt
  have e0 : (((blkM (512 * (b : ℕ)) (blk_inb b)).view.emb x 0 : Fin 4096) : ℕ) = 512 * (b : ℕ) + (x 0 : ℕ) := by
    show 512 * (b : ℕ) + 1 * (x 0 : ℕ) = _; omega
  have e1 : (((blkM (512 * (b : ℕ)) (blk_inb b)).view.emb x 1 : Fin 256) : ℕ) = (x 1 : ℕ) := by
    show 0 + 1 * (x 1 : ℕ) = _; omega
  unfold result
  have hb : (((blkM (512 * (b : ℕ)) (blk_inb b)).view.emb x 0 : Fin 4096) : ℕ) / 512 = (b : ℕ) := by omega
  have hr : (((blkM (512 * (b : ℕ)) (blk_inb b)).view.emb x 0 : Fin 4096) : ℕ) % 512 = (x 0 : ℕ) := by omega
  have hrows : ∀ n (hn : n < 8), n = (b : ℕ) → rowsOf a n hn = rowsOf a b b.isLt := by intro n hn h; subst h; rfl
  rw [hrows _ _ hb]
  exact congrArg _ (idx_ext2 hr.symm e1.symm)

/-- A row block written whole with the block of `g` is that block held at `g`. -/
theorem own_block (c : Dev nD) (b : Fin 8) (fo g : BufOf (F := F) c oM) (v : Vec F S512x256 .f32)
    (hv : ∀ x, v x = g ((blkM (512 * (b : ℕ)) (blk_inb b)).view.emb x)) :
    (own c (blkM (512 * (b : ℕ)) (blk_inb b)) ((blkM (512 * (b : ℕ)) (blk_inb b)).view.writes (Elt F) fo [⟨Rect.whole S512x256, v⟩]) : sProp 𝕄)
      = own c (blkM (512 * (b : ℕ)) (blk_inb b)) g := by
  refine pointsTo_congr fun i hi => ?_
  obtain ⟨z, -, rfl⟩ := Finset.mem_map.mp hi
  rw [← View.write_univ_eq_writes_whole, View.writes_nil, View.write_emb_of_mem _ _ (Finset.mem_univ _), hv z]; rfl

/-! ## What a slot delivers -/

/-- Output buffer `i`, as the block of 512 rows a transfer sends. -/
abbrev oslotM (i : ℕ) (h : ∀ a, (![i, 0, 0] : Fin 3 → ℕ) a + S1x512x256.size a ≤ S2x512x256.size a) : Memref sig .tc .vmem S512x256 .f32 :=
  (outM.slice (Rect.unit (s := S2x512x256) ![i, 0, 0] S1x512x256.size h) (fun _ => rfl)).squeeze S512x256 squeezes_S1x512x256_S512x256

/-- A ring slot read back after a transfer wrote it whole is the transfer's payload. -/
theorem slot_read (i : ℕ) (h : ∀ a, (![i, 0, 0] : Fin 3 → ℕ) a + S1x512x4096.size a ≤ S4x512x4096.size a)
    (f : (slotM i h).view.ty.Contents (Elt F)) (p : Vec F S512x4096 .f32) (L) :
    shapeCast S512x4096 (ringM.view.readAt (Elt F) (Rect.unit (s := S4x512x4096) ![i, 0, 0] S1x512x4096.size h).toLoadRect
      ((slotM i h).view.writes (Elt F) f (⟨Rect.whole S512x4096, p⟩ :: L))) shapeCasts_S1x512x4096_S512x4096 = p := by
  funext x
  have := View.read_writes_cons_emb (Val := Elt F) (slotM i h).view f (Rect.whole S512x4096) p L x
  rw [Rect.emb_whole_apply] at this
  exact this

/-- An output slot read back after a store into it is the stored value, the leading axis dropped. -/
theorem oslot_read (i : ℕ) (h : ∀ a, (![i, 0, 0] : Fin 3 → ℕ) a + S1x512x256.size a ≤ S2x512x256.size a)
    (f : outM.view.ty.Contents (Elt F)) (v : Vec F S512x256 .f32) (L) :
    (oslotM i h).view.read (Elt F) (outM.view.writes (Elt F) f
      (⟨Rect.unit (s := S2x512x256) ![i, 0, 0] S1x512x256.size h, shapeCast S1x512x256 v shapeCasts_S512x256_S1x512x256⟩ :: L)) = v := by
  have e : (oslotM i h).view.read (Elt F) (outM.view.writes (Elt F) f
      (⟨Rect.unit (s := S2x512x256) ![i, 0, 0] S1x512x256.size h, shapeCast S1x512x256 v shapeCasts_S512x256_S1x512x256⟩ :: L))
      = shapeCast S512x256 (shapeCast S1x512x256 v shapeCasts_S512x256_S1x512x256) shapeCasts_S1x512x256_S512x256 := by
    funext x
    exact View.read_writes_cons_emb (Val := Elt F) outM.view f (Rect.unit (s := S2x512x256) ![i, 0, 0] S1x512x256.size h) _ L _
  rw [e, shapeCast_shapeCast]

/-- One block through the ring: what its output slot delivers, the input slot `i` having been filled with the payload `p`, is the
    product of `p` with the clipped weights. -/
theorem piece (i j : ℕ) (h : ∀ a, (![i, 0, 0] : Fin 3 → ℕ) a + S1x512x4096.size a ≤ S4x512x4096.size a)
    (h' : ∀ a, (![j, 0, 0] : Fin 3 → ℕ) a + S1x512x256.size a ≤ S2x512x256.size a)
    (w : Vec F S4096x256 .f32) (b : Fin 8) (a : Vec F S4096x4096 .f32) (g : (slotM i h).view.ty.Contents (Elt F)) (L)
    (f : outM.view.ty.Contents (Elt F)) (L') :
    ReadAs.same.apply ((oslotM j h').view.read (Elt F) (outM.view.writes (Elt F) f
      (⟨Rect.unit (s := S2x512x256) ![j, 0, 0] S1x512x256.size h',
        k0_pay2 (k0_pay1 w) (ringM.view.readAt (Elt F) (Rect.unit (s := S4x512x4096) ![i, 0, 0] S1x512x4096.size h).toLoadRect
          ((slotM i h).view.writes (Elt F) g (⟨Rect.whole S512x4096, ReadAs.same.apply
            ((aM.slice (Rect.unit (s := S4096x4096) ![512 * (b : ℕ), 0] S512x4096.size (rows_inb b)) (fun _ => rfl)).view.read (Elt F) a)⟩ :: L)))⟩ :: L')))
      = blockOf w (rowsOf a b b.isLt) := by
  have e : ∀ v, k0_pay2 (k0_pay1 w) v = shapeCast S1x512x256 (blockOf w (shapeCast S512x4096 v shapeCasts_S1x512x4096_S512x4096)) shapeCasts_S512x256_S1x512x256 :=
    fun _ => rfl
  rw [e, slot_read]
  refine (oslot_read j h' f _ L').trans ?_
  exact congrArg (blockOf w) (read_rows b a)

/-- A row block written whole with the product of its rows is that block held at the whole result. -/
theorem out_of (c : Dev nD) (b : Fin 8) (fo : BufOf (F := F) c oM) (v : Vec F S512x256 .f32) (w : Vec F S4096x256 .f32)
    (fa : Vec F S4096x4096 .f32) (hv : v = blockOf w (rowsOf fa b b.isLt)) :
    (own c (blkM (512 * (b : ℕ)) (blk_inb b)) ((blkM (512 * (b : ℕ)) (blk_inb b)).view.writes (Elt F) fo [⟨Rect.whole S512x256, v⟩]) : sProp 𝕄)
      ⊢ own c (blkM (512 * (b : ℕ)) (blk_inb b)) (result w fa) :=
  Entails.of_eq (own_block c b fo (result w fa) v fun x => by rw [hv]; exact block_entry b w fa x)

/-! ## The body run -/

/-- The body, on the weights' staging buffer at `fw`, the four ring slots, the output slots, the six cells at zero, the feedback whole
    and the result's eight row blocks, runs to the continuation holding the same with the result at `result`. -/
theorem kernelRun (c : Dev nD) (wM : Memref sig .tc .vmem S4096x256 .f32) (hw : wM.IsWhole)
    (fa : BufOf (F := F) c aM) (fo : BufOf (F := F) c oM) (fr : BufOf (F := F) c ringM) (fb : BufOf (F := F) c outM) (fw : BufOf (F := F) c wM)
    (W : Waits sig Unit) (K : PUnit → sProp 𝕄) :
    iprop((wM.view.loc (c : Thread nD τ) ↦[wM.view.set]{fullShare} fw)
        ∗ own c (slotM 0 inb_S4x512x4096_S1x512x4096_0_0_0) fr
        ∗ own c (slotM 1 inb_S4x512x4096_S1x512x4096_1_0_0) fr
        ∗ own c (slotM 2 inb_S4x512x4096_S1x512x4096_2_0_0) fr
        ∗ own c (slotM 3 inb_S4x512x4096_S1x512x4096_3_0_0) fr
        ∗ pt c outM fb
        ∗ semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0
        ∗ semVal ((c : Thread nD τ), SemLoc.dma 5) 0 ∗ semVal ((c : Thread nD τ), SemLoc.dma 6) 0
        ∗ pt c aM fa
        ∗ own c (blkM 0 inb_S4096x256_S512x256_0_0) fo
        ∗ own c (blkM 512 inb_S4096x256_S512x256_512_0) fo
        ∗ own c (blkM 1024 inb_S4096x256_S512x256_1024_0) fo
        ∗ own c (blkM 1536 inb_S4096x256_S512x256_1536_0) fo
        ∗ own c (blkM 2048 inb_S4096x256_S512x256_2048_0) fo
        ∗ own c (blkM 2560 inb_S4096x256_S512x256_2560_0) fo
        ∗ own c (blkM 3072 inb_S4096x256_S512x256_3072_0) fo
        ∗ own c (blkM 3584 inb_S4096x256_S512x256_3584_0) fo
        ∗ owes (c : Thread nD τ) 0 W
        ∗ (iprop((wM.view.loc (c : Thread nD τ) ↦[wM.view.set]{fullShare} fw)
            ∗ (∃ g, pt c ringM g) ∗ (∃ g, pt c outM g)
            ∗ semVal ((c : Thread nD τ), SemLoc.dma 1) 0 ∗ semVal ((c : Thread nD τ), SemLoc.dma 2) 0
            ∗ semVal ((c : Thread nD τ), SemLoc.dma 3) 0 ∗ semVal ((c : Thread nD τ), SemLoc.dma 4) 0
            ∗ semVal ((c : Thread nD τ), SemLoc.dma 5) 0 ∗ semVal ((c : Thread nD τ), SemLoc.dma 6) 0
            ∗ pt c aM fa
            ∗ pt c oM (result (wM.view.readAt (Elt F) (Rect.unit (s := S4096x256) ![0, 0] S4096x256.size inb_S4096x256_S4096x256_0_0).toLoadRect fw) fa)
            ∗ (∃ W', owes (c : Thread nD τ) 0 W')) -∗ K ⟨⟩))
      ⊢ wp frame (wpE (defs₀ (F := F)) Variants.none c none) Set.univ
          (cc0__mm_kernel aM (Memref.isWhole_whole _) wM hw oM (Memref.isWhole_whole _) ringM (Memref.isWhole_whole _)
            outM (Memref.isWhole_whole _) cc0_scratch2 cc0_scratch3) K := by
  simp only [cc0__mm_kernel_eq_skeleton]; unfold cc0__mm_kernel_skel
  have h0 := slot_sub 0 inb_S4x512x4096_S1x512x4096_0_0_0
  have h1 := slot_sub 1 inb_S4x512x4096_S1x512x4096_1_0_0
  have h2 := slot_sub 2 inb_S4x512x4096_S1x512x4096_2_0_0
  have h3 := slot_sub 3 inb_S4x512x4096_S1x512x4096_3_0_0
  iintro ⟨Hw, Hr0, Hr1, Hr2, Hr3, Hb, Hq1, Hq2, Hq3, Hq4, Hq5, Hq6, Ha, Ho0, Ho1, Ho2, Ho3, Ho4, Ho5, Ho6, Ho7, HW, Hk⟩
  sl_exec
  sl_step
  rw [out_blocks]
  iapply Hk
  isplitl [Hw]; · iexact Hw
  isplitl [Hr0 Hr1 Hr2 Hr3]
  · iapply (slots_ring c fr)
    isplitl [Hr0]; · iexists _; iexact Hr0
    isplitl [Hr1]; · iexists _; iexact Hr1
    isplitl [Hr2]; · iexists _; iexact Hr2
    iexists _; iexact Hr3
  isplitl [Hb]; · iexists _; iexact Hb
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Ha]; · iexact Ha
  isplitr [HW]
  · isplitl [Ho0]; · iapply (out_of c 0 fo _ _ fa (piece 0 0 _ _ _ 0 fa _ _ _ _)); iexact Ho0
    isplitl [Ho1]; · iapply (out_of c 1 fo _ _ fa (piece 1 1 _ _ _ 1 fa _ _ _ _)); iexact Ho1
    isplitl [Ho2]; · iapply (out_of c 2 fo _ _ fa (piece 2 0 _ _ _ 2 fa _ _ _ _)); iexact Ho2
    isplitl [Ho3]; · iapply (out_of c 3 fo _ _ fa (piece 3 1 _ _ _ 3 fa _ _ _ _)); iexact Ho3
    isplitl [Ho4]; · iapply (out_of c 4 fo _ _ fa (piece 0 0 _ _ _ 4 fa _ _ _ _)); iexact Ho4
    isplitl [Ho5]; · iapply (out_of c 5 fo _ _ fa (piece 1 1 _ _ _ 5 fa _ _ _ _)); iexact Ho5
    isplitl [Ho6]; · iapply (out_of c 6 fo _ _ fa (piece 2 0 _ _ _ 6 fa _ _ _ _)); iexact Ho6
    iapply (out_of c 7 fo _ _ fa (piece 3 1 _ _ _ 7 fa _ _ _ _)); iexact Ho7
  iexists _; iexact HW

end Cert.KernelIdeal.Hand
-- ==== Proof.Run.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's data -/

/-- Core `c`'s buffers when the region is entered: as launched. -/
abbrev V (c : Dev nD) (b : Ref sig .tc) : Buf (Elt F) ((c : Thread nD τ).loc b) := m ((c : Thread nD τ).loc b)

/-- The program up to its one region is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's six transfer cells: the ring's four and the output slots' two. -/
abbrev osem0 : Fin 6 → SemLoc sig := ![SemLoc.dma 1, SemLoc.dma 2, SemLoc.dma 3, SemLoc.dma 4, SemLoc.dma 5, SemLoc.dma 6]
/-- The six cells are distinct and none belongs to the staging. -/
theorem ownSemFacts0 : Pipeline.OwnSemFacts spec0 osem0 := by decide
/-- The six cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0) := by
  rw [Pipeline.ownSems0_eq_of_list c osem0 [0, 1, 2, 3, 4, 5] (by decide) (by decide)]; rfl

/-- The array the body's transfers read: the feedback. -/
def H0 : Finset (Ref sig .tc) := {main_arg2}
/-- The array the body's transfers write: the result. -/
def R0 : Finset (Ref sig .tc) := {main_v0}
/-- The feedback is no staged array. -/
theorem H0_sub : H0 ⊆ Pipeline.restRefs sig spec0 := by decide
/-- The result is no staged array, and is not the feedback. -/
theorem R0_sub : R0 ⊆ Pipeline.restRefs sig spec0 \ H0 := by decide

/-- What the result holds when the region ends, everything else as launched. -/
def G (c : Dev nD) : (b : Ref sig .tc) → Buf (Elt F) ((c : Thread nD τ).loc b) :=
  Function.update (V m c) main_v0 (result (V m c main_arg3) (V m c main_arg2))

/-- What the body owns beside the weights, spelt out: the two scratch buffers, the random register, the six cells at zero, the feedback and the result. -/
theorem PhiDRG0_eq (c : Dev nD) (W : (b : Ref sig .tc) → Buf (Elt F) ((c : Thread nD τ).loc b)) :
    (Pipeline.ΦDRG osem0 spec0 H0 R0 (V m) (fun _ => W) c : sProp 𝕄)
      = iprop(iprop((∃ f, pt c ringM f) ∗ (∃ f, pt c outM f))
          ∗ (∃ r, prngReg c r)
          ∗ iprop(semVal ((c : Thread nD τ), SemLoc.dma 1) 0 ∗ semVal ((c : Thread nD τ), SemLoc.dma 2) 0
              ∗ semVal ((c : Thread nD τ), SemLoc.dma 3) 0 ∗ semVal ((c : Thread nD τ), SemLoc.dma 4) 0
              ∗ semVal ((c : Thread nD τ), SemLoc.dma 5) 0 ∗ semVal ((c : Thread nD τ), SemLoc.dma 6) 0)
          ∗ pt c aM (V m c main_arg2)
          ∗ pt c oM (W main_v0)) := by
  rw [Pipeline.ΦDRG_eq, scopedRest0_eq, ownSems00_eq]
  unfold Pipeline.routed H0 R0
  rw [bigSep_singleton, bigSep_singleton]

/-- The proof data of the one pipeline on core `c`: the weights' block kept, the result as launched before the one point and
    at `G` after it, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ p := Pipeline.ΦDRG osem0 spec0 H0 R0 (V m) (fun _ => if p = 0 then V m c else G m c) c
  q _ := fullShare
  owed _ := 0

/-- The pipeline finds its arrays as launched. -/
theorem A_eq (c : Dev nD) (w : Fin cfg0.W) : (dats m 0 c).A w = V m c (Pipeline.arrRef spec0 w) := by
  dsimp only [dats]
/-- The body leaves the weights' staging buffer at its block. -/
theorem after0_0 (c : Dev nD) (t : Fin cfg0.N) : (dats m 0 c).after 0 t = iblk m c 0 t := by dsimp only [dats]

/-- The weights' staging buffer holds their block when the body runs. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- A load of a whole buffer's view reads the view. -/
theorem readAt_full (wM : Memref sig .tc .vmem S4096x256 .f32) (f : wM.view.ty.Contents (Elt F)) :
    wM.view.readAt (Elt F) (Rect.unit (s := S4096x256) ![0, 0] S4096x256.size inb_S4096x256_S4096x256_0_0).toLoadRect f = wM.view.read (Elt F) f := by
  funext x
  exact congrArg (wM.view.read (Elt F) f) (idx_ext2 (by show 0 + 1 * (x 0 : ℕ) = _; omega) (by show 0 + 1 * (x 1 : ℕ) = _; omega))

/-- The weights' block is the whole array. -/
theorem iblk_eq (c : Dev nD) (t : Fin cfg0.N) : iblk m c 0 t = V m c main_arg3 := by
  funext x
  exact congrArg (V m c main_arg3) (idx_ext2 (by show 0 + 1 * (x 0 : ℕ) = _; omega) (by show 0 + 1 * (x 1 : ℕ) = _; omega))

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
/-- What the body ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The body at the one point takes the entry invariant to the exit one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have ht : t.castSucc = 0 := by
    have := t.isLt; have hN : cfg0.N = 1 := N_0
    exact Fin.ext (by simp; omega)
  have ht' : t.succ ≠ 0 := Fin.succ_ne_zero t
  rw [show (dats m 0 c).Φ t.castSucc = Pipeline.ΦDRG osem0 spec0 H0 R0 (V m) (fun _ => V m c) c from by simp only [dats, if_pos ht],
    show (dats m 0 c).Φ t.succ = Pipeline.ΦDRG osem0 spec0 H0 R0 (V m) (fun _ => G m c) c from by simp only [dats, if_neg ht'],
    PhiDRG0_eq, PhiDRG0_eq, after0_0]
  simp only [before0_0]
  unfold Dat.owesAt Pipeline.owesWithin
  rw [show (dats m 0 c).owed t.castSucc = 0 from rfl, show (dats m 0 c).owed t.succ = 0 from rfl]
  unfold owns
  iintro ⟨⟨⟨⟨%fr, Hr⟩, ⟨%fb, Hb⟩⟩, Hg, ⟨Hq1, Hq2, Hq3, Hq4, Hq5, Hq6⟩, Ha, Ho⟩, ⟨%W, -, HW⟩, ⟨%d0, %fw, %hfw, Hw⟩⟩
  ihave ⟨Hr0, Hr1, Hr2, Hr3⟩ := (Entails.of_eq (ring_slots c fr)) $$ Hr
  ihave ⟨Ho0, Ho1, Ho2, Ho3, Ho4, Ho5, Ho6, Ho7⟩ := (Entails.of_eq (out_blocks c (V m c main_v0))) $$ Ho
  iapply (kernelRun c (win0_0.stage (cfg0.slots t 0)) (hstage0_0 0) (V m c main_arg2) (V m c main_v0) fr fb fw W _)
  isplitl [Hw]; · iexact Hw
  isplitl [Hr0]; · iexact Hr0
  isplitl [Hr1]; · iexact Hr1
  isplitl [Hr2]; · iexact Hr2
  isplitl [Hr3]; · iexact Hr3
  isplitl [Hb]; · iexact Hb
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Ha]; · iexact Ha
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [HW]; · iexact HW
  rw [readAt_full, hfw, iblk_eq, show G m c main_v0 = result (V m c main_arg3) (V m c main_arg2) from Function.update_self ..]
  iintro ⟨Hw, Hr, Hb, Hq1, Hq2, Hq3, Hq4, Hq5, Hq6, Ha, Ho, ⟨%W', HW'⟩⟩
  isplitl [Hr Hb Hg Hq1 Hq2 Hq3 Hq4 Hq5 Hq6 Ha Ho]
  · isplitl [Hr Hb]
    · isplitl [Hr]; · iexact Hr
      iexact Hb
    isplitl [Hg]; · iexact Hg
    isplitl [Hq1 Hq2 Hq3 Hq4 Hq5 Hq6]
    · isplitl [Hq1]; · iexact Hq1
      isplitl [Hq2]; · iexact Hq2
      isplitl [Hq3]; · iexact Hq3
      isplitl [Hq4]; · iexact Hq4
      isplitl [Hq5]; · iexact Hq5
      iexact Hq6
    isplitl [Ha]; · iexact Ha
    iexact Ho
  isplitl [HW']
  · iexists W'; isplitr; · ipureintro; exact fun _ _ => Or.inl trivial
    iexact HW'
  iexists fw; isplitr; · ipureintro; exact hfw.trans (iblk_eq m c t)
  iexact Hw

/-- The body the pipeline calls is the kernel's. -/
theorem defs₀_row (t : Fin cfg0.N) :
    defs₀ (F := F) .tc cfg0.body (cfg0.bodyArgs t (cfg0.slots t)) = bodyAt0 t := by
  unfold defs₀; rw [Defs.onTc_tc]

/-- The body does what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The program runs to its end with the result at `G`, every other array as the library's post states, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => .rfl) (hout := fun c => .rfl)

/-- Every run ends with the result at `result`, the four arguments unchanged and every counter at zero. -/
theorem run : θ_run defs (onTc (τ := τ) (main (F := F))) ⟨m, fun _ => 0, ρ⟩ (fun r => (∀ c : Dev nD,
      r.2.mem ((c.tc : Thread nD τ).loc main_v0)
          = result (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have rest : ∀ b : Ref sig .tc, b ∈ Pipeline.restRefs sig spec0 → b ∉ R0 → b ∈ Pipeline.restRefs sig spec0 \ R0 :=
    fun b h h' => Finset.mem_sdiff.mpr ⟨h, h'⟩
  refine (θ_run defs _ _).mono (fun r h => ⟨fun c => ⟨?_, ?_, ?_, ?_, ?_⟩, h.2⟩) (run_main m ρ)
  · exact (h.1.written c (Finset.mem_singleton_self main_v0)).trans (Function.update_self ..)
  · exact (h.1.toR c).2 main_arg0 (rest _ (Pipeline.mem_restRefs_of main_arg0 (by decide) (by decide)) (by decide))
  · exact (h.1.toR c).2 main_arg1 (rest _ (Pipeline.mem_restRefs_of main_arg1 (by decide) (by decide)) (by decide))
  · exact (h.1.toR c).2 main_arg2 (rest _ (Pipeline.mem_restRefs_of main_arg2 (by decide) (by decide)) (by decide))
  · exact ((h.1.toR c).1 0).trans (((dats m 0 c).arrAt_in 0 rfl _).trans (A_eq m c 0))

end Cert.KernelIdeal.Hand

end
-- ==== Proof.Value.lean ====
module

public import proofs.«01_k».proof.Proof.Run
public import proofs.«01_k».proof.Proof.Gen.ReferenceIdeal
public import proofs.«01_k».proof.Proof.Gen.Pre_every_user_in_order
public import Idealize.ShloMosaic.Lib.MatmulPlain
public import Idealize.ShloMosaic.Lib.StackMember
public import Idealize.ShloMosaic.Lib.Routing.Ops
public import Idealize.ShloMosaic.Lib.ReduceAll
public import Idealize.ShloMosaic.Lib.IdealHost

@[expose] public section

noncomputable section

namespace Cert.Value

open Idealize.ShloMosaic Idealize.ShloMosaic.ValueIdx
open Cert.ReferenceIdeal Cert.ReferenceIdeal.Gen

/-! ## The precondition: the users are listed in order -/

/-- Where the precondition is true, user `i` of the list is `i`. -/
theorem ids_of_pre {F : FTy → Type} [FloatOps F] (ids : IVec S4096 32) (x : IVec Cert.Pre_every_user_in_order.S256 32)
    (a : FVec F S4096x4096 .f32) (w : FVec F S4096x256 .f32)
    (h : Cert.Pre_every_user_in_order.fn (F := F) ids x a w = fun _ => 1#1) (i : S4096.Idx) :
    ids i = BitVec.ofNat 32 (i 0 : ℕ) := by
  have e := Host.reduce_andi_eq_one _ _ _ _ (fun a => a.elim0) (congrFun h (fun a => a.elim0)) i (funext fun a => a.elim0)
  rw [WordCmp.cmpi_at, WordCmp.cmpi_eq_eq, WordCmp.ofBool_decide_eq_one_iff] at e
  exact e

/-! ## The reference's take of the rows in order -/

/-- The list after the wrap of negative entries. -/
abbrev wrapped (ids : IVec S4096 32) : IVec S4096 32 :=
  select (cmpi .slt ids (broadcastInDim S4096 ![] bcast_S_S4096 (constantI S_ 32 0#32)))
    (addi ids (broadcastInDim S4096 ![] bcast_S_S4096 (constantI S_ 32 4096#32))) ids

/-- The list as a column of row numbers. -/
abbrev column (ids : IVec S4096 32) : IVec S4096x1 32 := broadcastInDim S4096x1 ![0] bcast_S4096_S4096x1_0 (wrapped ids)

/-- Which entries are rows of the table. -/
abbrev inRange (ids : IVec S4096 32) : IVec S4096 1 :=
  Host.reduce IntOp.andi (andi (cmpi .sge (column ids) (broadcastInDim S4096x1 ![] bcast_S_S4096x1 (constantI S_ 32 0#32)))
      (cmpi .sle (column ids) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The clipped weights. -/
abbrev clipped {F : FTy → Type} [FloatOps F] (w : FVec F S4096x256 .f32) : FVec F S4096x256 .f32 :=
  maximumf (broadcastInDim S4096x256 ![] bcast_S_S4096x256 (id (constant S_ .f32 0x00000000#32))) w

/-- The taken rows: those of the table, and a NaN where the entry is no row of it. -/
abbrev taken {F : FTy → Type} [FloatOps F] (ids : IVec S4096 32) (w : FVec F S4096x256 .f32) : FVec F S4096x256 .f32 :=
  select (broadcastInDim S4096x256 ![0] bcast_S4096_S4096x256_0 (inRange ids))
    (Host.gather gather_S4096x256_S4096x1_S4096x256_1_0_n_n_0_1_1256 (clipped w) (column ids))
    (broadcastInDim S4096x256 ![] bcast_S_S4096x256 (constant S_ .f32 0x7FC00000#32))

variable {ids : IVec S4096 32} (hid : ∀ i : S4096.Idx, ids i = BitVec.ofNat 32 (i 0 : ℕ))
include hid

/-- No entry of an in-order list is negative, so the wrap keeps each. -/
theorem wrapped_apply (i : S4096.Idx) : wrapped ids i = BitVec.ofNat 32 (i 0 : ℕ) := by
  have hi : (i 0 : ℕ) < 4096 := (i 0).isLt
  show Scalar.select (IntOp.cmpi .slt (ids i) 0#32) _ (ids i) = _
  rw [hid i, WordCmp.select_of_eq_zero]
  exact (WordCmp.cmpi_slt_ofNat_eq_zero_iff (by omega) (by omega)).2 (by omega)

/-- The column of row numbers holds, at row `r`, the number `r`. -/
theorem column_apply (j : S4096x1.Idx) : column ids j = BitVec.ofNat 32 (j 0 : ℕ) := by
  exact wrapped_apply hid _

/-- Every entry of an in-order list is a row of the table. -/
theorem inRange_apply (i : S4096.Idx) : inRange ids i = 1#1 := by
  refine Host.reduce_andi_one _ _ _ _ _ rfl fun j => ?_
  have hj : (j 0 : ℕ) < 4096 := (j 0).isLt
  show IntOp.andi (IntOp.cmpi .sge (column ids j) 0#32) (IntOp.cmpi .sle (column ids j) 4095#32) = 1#1
  rw [column_apply hid j]
  refine IntOp.andi_eq_one.2 ⟨(WordCmp.cmpi_sge_ofNat_eq_one_iff (by omega) (by omega)).2 (by omega),
    (WordCmp.cmpi_sle_ofNat_eq_one_iff (by omega) (by omega)).2 (by omega)⟩

/-- Taking the rows in order is the table itself. -/
theorem taken_apply {F : FTy → Type} [FloatOps F] (w : FVec F S4096x256 .f32) (r : Fin 4096) (k : Fin 256) :
    taken ids w (ix2 r k) = clipped w (ix2 r k) := by
  show Scalar.select (inRange ids _) _ _ = _
  rw [inRange_apply hid, WordCmp.select_one]
  exact Routing.gather_row gather_S4096x256_S4096x1_S4096x256_1_0_n_n_0_1_1256 rfl rfl rfl rfl rfl (clipped w) (column ids) r k r
    (column_apply hid _) (by decide)

/-- THE VALUE: over the extended reals the reference's product is the kernel's blocks of it. -/
theorem value (a : FVec Ideal S4096x4096 .f32) (w : FVec Ideal S4096x256 .f32) :
    Host.dotGeneral dot_S4096x4096_S4096x256_S4096x256_1_0_0_1_n_n none a (taken ids w) = Cert.KernelIdeal.Hand.result (F := Ideal) w a := by
  funext i
  obtain ⟨r, c, rfl⟩ : ∃ r c, i = ix2 r c := ⟨_, _, eq_ix2 i⟩
  refine (StackMember.dotGeneral_plain_apply none a (taken ids w) r c).trans ?_
  unfold Cert.KernelIdeal.Hand.result Cert.KernelIdeal.Hand.blockOf
  refine Eq.trans ?_ (Ideal.matmul_plain_apply (M := 512) (K := 4096) (N := 256) none _ _ _ _ _).symm
  show _ = Ideal.ofBits .f32 0x00000000#32 + _
  rw [Ideal.ofBits_zero_f32, zero_add]
  refine Finset.sum_congr rfl fun k _ => ?_
  rw [taken_apply hid]
  refine congrArg₂ (· * ·) (congrArg a ?_) (max_comm _ _)
  refine Cert.KernelIdeal.Hand.idx_ext2 ?_ rfl
  show (r : ℕ) = 512 * ((r : ℕ) / 512) + (r : ℕ) % 512
  omega

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_every_user_in_order
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

section Same

variable {F : FTy → Type} [FloatOps F]

local instance : Cert.Kernel.Facts := Cert.Kernel.Gen.facts
local instance : Cert.KernelIdeal.Facts := Cert.KernelIdeal.Gen.facts

/-- The kernel's body is one text in both readings of the program: label by label, the same statements. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- So is its whole table of bodies, the pipeline's own labels included. -/
theorem defs_same : Cert.Kernel.defs (F := F) = Cert.KernelIdeal.defs (F := F) :=
  congrArg (Pipeline.defs (Cert.KernelIdeal.pcfgs (F := F))) defs₀_same

end Same

/-- The frame of the kernel as it runs: its program is the one run over the extended reals, here at the machine's
    floats. -/
theorem frame_kernel : Cert.quiescent_Kernel (hKernel := Cert.Kernel.Gen.facts) := by
  intro m g _
  rw [defs_same]
  exact (θ_run Cert.KernelIdeal.defs _ _).mono (fun _ h => ⟨fun c => (h.1 c).2, h.2⟩) (Cert.KernelIdeal.Hand.run (F := Bits) m g)

/-- The frame of the kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run (F := Ideal) m g)

/-- The frame of the reference: it writes no argument and declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- THE VALUE CLAIM: with the users listed in order, the kernel and the reference end with the same result. -/
theorem algebraic : Cert.algebraic_KernelIdeal_ReferenceIdeal_pre_every_user_in_order
    (hKernelIdeal := Cert.KernelIdeal.Gen.facts) (hReferenceIdeal := Cert.ReferenceIdeal.Gen.facts)
    (hPre_every_user_in_order := Cert.Pre_every_user_in_order.Gen.facts) := by
  intro m g m' g' hpre hargs
  refine ⟨fun c => Cert.KernelIdeal.Hand.result
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    (θ_run Cert.KernelIdeal.defs _ _).mono (fun _ h => h.1) (Cert.KernelIdeal.Hand.run (F := Ideal) m g),
    (θ_run Cert.ReferenceIdeal.defs _ _).mono (fun _ h c => ⟨(h c).1.trans ?_, (h c).2⟩) (Cert.ReferenceIdeal.Value.run (F := Ideal) m' g')⟩
  have hid := Cert.Value.ids_of_pre _ _ _ _ (hpre c)
  obtain ⟨e0, e1, e2, e3⟩ := hargs c
  rw [e0, e2, e3]
  exact Cert.Value.value hid _ _

/-- Everything claimed of the kernel. -/
theorem claim : Cert.Claim := ⟨Cert.Kernel.Gen.facts, Cert.KernelIdeal.Gen.facts, Cert.ReferenceIdeal.Gen.facts, Cert.Pre_every_user_in_order.Gen.facts,
  frame_kernel, frame_kernelIdeal, fun m g _ => frame_kernelIdeal m g trivial, frame_reference, fun m g _ => frame_reference m g trivial,
  trivial, algebraic⟩

end Cert.Proof

end
